-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x1152 : Shape := ⟨3, ![6, 2048, 1152]⟩
abbrev S4608x144 : Shape := ⟨2, ![4608, 144]⟩
abbrev S4608x1152 : Shape := ⟨2, ![4608, 1152]⟩
abbrev S4608 : Shape := ⟨1, ![4608]⟩
abbrev S36x128 : Shape := ⟨2, ![36, 128]⟩
abbrev S12288x1152 : Shape := ⟨2, ![12288, 1152]⟩
abbrev S12288x4608 : Shape := ⟨2, ![12288, 4608]⟩
abbrev S512x1152 : Shape := ⟨2, ![512, 1152]⟩
abbrev S512x4608 : Shape := ⟨2, ![512, 4608]⟩
abbrev S128x144 : Shape := ⟨2, ![128, 144]⟩
abbrev S32x144 : Shape := ⟨2, ![32, 144]⟩
abbrev S1x128 : Shape := ⟨2, ![1, 128]⟩
abbrev S128x128 : Shape := ⟨2, ![128, 128]⟩
abbrev S32x128 : Shape := ⟨2, ![32, 128]⟩
abbrev S32x128x1 : Shape := ⟨3, ![32, 128, 1]⟩
abbrev S32x16 : Shape := ⟨2, ![32, 16]⟩
abbrev S32x112 : Shape := ⟨2, ![32, 112]⟩

abbrev nBuf : Space → Nat
  | .hbm => 10
  | .vmem => 10
  | .smem => 0
  | _ => 0

abbrev bufTy : (tb : Table) → Fin (tcTables nBuf tb) → BufTy
  | .hbm, ⟨0, _⟩ => ⟨S6x2048x1152, .bf16⟩
  | .hbm, ⟨1, _⟩ => ⟨S4608x144, .i8⟩
  | .hbm, ⟨2, _⟩ => ⟨S4608x144, .i8⟩
  | .hbm, ⟨3, _⟩ => ⟨S4608x1152, .i8⟩
  | .hbm, ⟨4, _⟩ => ⟨S4608, .f32⟩
  | .hbm, ⟨5, _⟩ => ⟨S4608, .f32⟩
  | .hbm, ⟨6, _⟩ => ⟨S36x128, .f32⟩
  | .hbm, ⟨7, _⟩ => ⟨S36x128, .f32⟩
  | .hbm, ⟨8, _⟩ => ⟨S12288x1152, .bf16⟩
  | .hbm, ⟨9, _⟩ => ⟨S12288x4608, .bf16⟩
  | .local _ .vmem, ⟨0, _⟩ => ⟨S512x1152, .bf16⟩
  | .local _ .vmem, ⟨1, _⟩ => ⟨S512x1152, .bf16⟩
  | .local _ .vmem, ⟨2, _⟩ => ⟨S4608x144, .i8⟩
  | .local _ .vmem, ⟨3, _⟩ => ⟨S4608x144, .i8⟩
  | .local _ .vmem, ⟨4, _⟩ => ⟨S4608x1152, .i8⟩
  | .local _ .vmem, ⟨5, _⟩ => ⟨S36x128, .f32⟩
  | .local _ .vmem, ⟨6, _⟩ => ⟨S36x128, .f32⟩
  | .local _ .vmem, ⟨7, _⟩ => ⟨S512x4608, .bf16⟩
  | .local _ .vmem, ⟨8, _⟩ => ⟨S512x4608, .bf16⟩
  | .local _ .vmem, ⟨9, _⟩ => ⟨S4608x1152, .bf16⟩
  | _, _ => ⟨S6x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c36_i32 : BitVec 32 := 36#32
  let v9 : BitVec 32 := Scalar.addi c0_i32_6 c36_i32
  let c1_i32 : BitVec 32 := 1#32
  ⟨c0_i32_6, v9, c1_i32⟩
def k0_mult1 (k0_t1 : Fin k0_t1_loop.trips) : BitVec 32 :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  v12
def k0_off1 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v14 : Index := Scalar.indexCast v13
  let c0_10 : Index := 0#32
  ![v14.toNat, 0]
def k0_off2 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let v20 : Index := Scalar.indexCast v11
  let c0_12 : Index := 0#32
  ![v20.toNat, 0]
def k0_off3 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v34 : Index := Scalar.indexCast v13
  let c0_14 : Index := 0#32
  ![v34.toNat, 0]
def k0_off4 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v164 : Index := Scalar.indexCast v13
  let c128 : Index := 128#32
  ![v164.toNat, 128]
def k0_off5 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v294 : Index := Scalar.indexCast v13
  let c256 : Index := 256#32
  ![v294.toNat, 256]
def k0_off6 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v424 : Index := Scalar.indexCast v13
  let c384 : Index := 384#32
  ![v424.toNat, 384]
def k0_off7 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v554 : Index := Scalar.indexCast v13
  let c512 : Index := 512#32
  ![v554.toNat, 512]
def k0_off8 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v684 : Index := Scalar.indexCast v13
  let c640 : Index := 640#32
  ![v684.toNat, 640]
def k0_off9 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v814 : Index := Scalar.indexCast v13
  let c768 : Index := 768#32
  ![v814.toNat, 768]
def k0_off10 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v944 : Index := Scalar.indexCast v13
  let c896 : Index := 896#32
  ![v944.toNat, 896]
def k0_off11 (k0_t1 : Fin k0_t1_loop.trips) : Fin 2 → Nat :=
  let c0_i32_9 : BitVec 32 := 0#32
  let c0_i32_6 : BitVec 32 := 0#32
  let c1_i32 : BitVec 32 := 1#32
  let arg9 : BitVec 32 := Scf.iv c0_i32_6 c1_i32 k0_t1
  let c1_i32_8 : BitVec 32 := 1#32
  let v10 : BitVec 32 := Scalar.muli arg9 c1_i32_8
  let v11 : BitVec 32 := Scalar.addi c0_i32_9 v10
  let c128_i32 : BitVec 32 := 128#32
  let v12 : BitVec 32 := Scalar.muli v11 c128_i32
  let v13 : BitVec 32 := v12
  let v1074 : Index := Scalar.indexCast v13
  let c1024 : Index := 1024#32
  ![v1074.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x1152 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x2048x1152 : Shape := ⟨3, ![6, 2048, 1152]⟩
abbrev S4608x144 : Shape := ⟨2, ![4608, 144]⟩
abbrev S4608x1152 : Shape := ⟨2, ![4608, 1152]⟩
abbrev S4608 : Shape := ⟨1, ![4608]⟩
abbrev S8 : Shape := ⟨1, ![8]⟩
abbrev S4608x144x1 : Shape := ⟨3, ![4608, 144, 1]⟩
abbrev S1x1x8 : Shape := ⟨3, ![1, 1, 8]⟩
abbrev S4608x144x8 : Shape := ⟨3, ![4608, 144, 8]⟩
abbrev S_ : Shape := ⟨0, ![]⟩
abbrev S4608x1x1 : Shape := ⟨3, ![4608, 1, 1]⟩
abbrev S6x2048x144x8 : Shape := ⟨4, ![6, 2048, 144, 8]⟩
abbrev S6x2048x4608 : Shape := ⟨3, ![6, 2048, 4608]⟩
abbrev S12288x4608 : Shape := ⟨2, ![12288, 4608]⟩

abbrev nBuf : Space → Nat
  | .hbm => 49
  | .vmem => 0
  | .smem => 0
  | _ => 0

abbrev bufTy : (tb : Table) → Fin (tcTables nBuf tb) → BufTy
  | .hbm, ⟨0, _⟩ => ⟨S6x2048x1152, .bf16⟩
  | .hbm, ⟨1, _⟩ => ⟨S4608x144, .i8⟩
  | .hbm, ⟨2, _⟩ => ⟨S4608x144, .i8⟩
  | .hbm, ⟨3, _⟩ => ⟨S4608x1152, .i8⟩
  | .hbm, ⟨4, _⟩ => ⟨S4608, .f32⟩
  | .hbm, ⟨5, _⟩ => ⟨S4608, .f32⟩
  | .hbm, ⟨6, _⟩ => ⟨S8, .i32⟩
  | .hbm, ⟨7, _⟩ => ⟨S4608x144, .i32⟩
  | .hbm, ⟨8, _⟩ => ⟨S4608x144x1, .i32⟩
  | .hbm, ⟨9, _⟩ => ⟨S1x1x8, .i32⟩
  | .hbm, ⟨10, _⟩ => ⟨S4608x144x8, .i32⟩
  | .hbm, ⟨11, _⟩ => ⟨S4608x144x8, .i32⟩
  | .hbm, ⟨12, _⟩ => ⟨S4608x144x8, .i32⟩
  | .hbm, ⟨13, _⟩ => ⟨S_, .i32⟩
  | .hbm, ⟨14, _⟩ => ⟨S4608x144x8, .i32⟩
  | .hbm, ⟨15, _⟩ => ⟨S4608x144x8, .i32⟩
  | .hbm, ⟨16, _⟩ => ⟨S4608x144, .i32⟩
  | .hbm, ⟨17, _⟩ => ⟨S4608x144x1, .i32⟩
  | .hbm, ⟨18, _⟩ => ⟨S1x1x8, .i32⟩
  | .hbm, ⟨19, _⟩ => ⟨S4608x144x8, .i32⟩
  | .hbm, ⟨20, _⟩ => ⟨S4608x144x8, .i32⟩
  | .hbm, ⟨21, _⟩ => ⟨S4608x144x8, .i32⟩
  | .hbm, ⟨22, _⟩ => ⟨S_, .i32⟩
  | .hbm, ⟨23, _⟩ => ⟨S4608x144x8, .i32⟩
  | .hbm, ⟨24, _⟩ => ⟨S4608x144x8, .i32⟩
  | .hbm, ⟨25, _⟩ => ⟨S4608x144x8, .i8⟩
  | .hbm, ⟨26, _⟩ => ⟨S4608, .bf16⟩
  | .hbm, ⟨27, _⟩ => ⟨S4608x1x1, .bf16⟩
  | .hbm, ⟨28, _⟩ => ⟨S4608, .bf16⟩
  | .hbm, ⟨29, _⟩ => ⟨S4608x1x1, .bf16⟩
  | .hbm, ⟨30, _⟩ => ⟨S_, .i32⟩
  | .hbm, ⟨31, _⟩ => ⟨S4608x144x8, .i32⟩
  | .hbm, ⟨32, _⟩ => ⟨S4608x144x8, .i1⟩
  | .hbm, ⟨33, _⟩ => ⟨S4608x144x8, .i32⟩
  | .hbm, ⟨34, _⟩ => ⟨S4608x144x8, .bf16⟩
  | .hbm, ⟨35, _⟩ => ⟨S4608x144x8, .bf16⟩
  | .hbm, ⟨36, _⟩ => ⟨S4608x144x8, .bf16⟩
  | .hbm, ⟨37, _⟩ => ⟨S_, .i32⟩
  | .hbm, ⟨38, _⟩ => ⟨S4608x144x8, .i32⟩
  | .hbm, ⟨39, _⟩ => ⟨S4608x144x8, .i1⟩
  | .hbm, ⟨40, _⟩ => ⟨S4608x1x1, .bf16⟩
  | .hbm, ⟨41, _⟩ => ⟨S4608x144x8, .bf16⟩
  | .hbm, ⟨42, _⟩ => ⟨S4608x144x8, .bf16⟩
  | .hbm, ⟨43, _⟩ => ⟨S4608x144x8, .bf16⟩
  | .hbm, ⟨44, _⟩ => ⟨S4608x144x8, .bf16⟩
  | .hbm, ⟨45, _⟩ => ⟨S6x2048x144x8, .bf16⟩
  | .hbm, ⟨46, _⟩ => ⟨S6x2048x4608, .f32⟩
  | .hbm, ⟨47, _⟩ => ⟨S6x2048x4608, .bf16⟩
  | .hbm, ⟨48, _⟩ => ⟨S12288x4608, .bf16⟩
  | _, _ => ⟨S6x2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Expand.lean ====
/-
  One column chunk of the weight, as the kernel computes it.

  A chunk is 128 rows by 128 columns. Its bits arrive packed, eight to a byte; the kernel reads four byte rows as one
  32-bit word, moves to every lane the word that holds the lane's bit, masks the bit in all four bytes at once and reads
  the words back as bytes: a byte is nonzero exactly when its row's bit is set. The chunk's value is then chosen between
  the scaled integer and plus or minus the row's alpha. The definitions below are the printed operations with the two
  things that differ between the nine chunks, the packed words `src` and the first packed column `base`, as arguments.
-/
module

public import proofs.«01_k».proof.Proof.Gen.KernelIdeal.Skeleton

@[expose] public section

noncomputable section

namespace Cert.KernelIdeal.Chunk

open Cert.KernelIdeal Cert.KernelIdeal.Gen Idealize.ShloMosaic Idealize.SL.Sem

variable {F : FTy → Type} [FloatOps F]

/-- The lane number along the second axis. -/
def lane : IVec S32x128 32 := iota .tc S32x128 32 [1] iota_S32x128_d1_w32

/-- The lane number divided by eight, rounded down, as printed: the truncated quotient and its correction. -/
def laneDiv : IVec S32x128 32 :=
  select
    (andi
      (cmpi .ne
        (subi (extui 32 (cmpi .sgt lane (broadcast S32x128 0#32)) natLt_1_32)
          (extui 32 (cmpi .slt lane (broadcast S32x128 0#32)) natLt_1_32))
        (broadcast S32x128 (Scalar.subi (Scalar.extui (Scalar.cmpi .sgt 8#32 0#32) : BitVec 32)
          (Scalar.extui (Scalar.cmpi .slt 8#32 0#32) : BitVec 32))))
      (cmpi .ne (remsi lane (broadcast S32x128 8#32)) (broadcast S32x128 0#32)))
    (subi (divsi lane (broadcast S32x128 8#32)) (broadcast S32x128 1#32))
    (divsi lane (broadcast S32x128 8#32))

/-- The packed column that holds a lane's bit: `base` plus the lane divided by eight, as printed (with the wrap of a
    negative index). -/
def column (base : BitVec 32) : IVec S32x128 32 :=
  select (cmpi .slt (addi (broadcast S32x128 base) laneDiv) (broadcast S32x128 0#32))
    (addi (addi (broadcast S32x128 base) laneDiv) (broadcast S32x128 128#32))
    (addi (broadcast S32x128 base) laneDiv)

/-- The divisor of the printed remainder: eight (one in place of zero). -/
def eight : BitVec 32 := Scalar.select (Scalar.cmpi .eq 8#32 0#32) 1#32 8#32

/-- The lane number modulo eight, as printed: the truncated remainder and its correction. -/
def laneMod : IVec S32x128 32 :=
  select
    (andi
      (xori (cmpi .slt (remsi lane (broadcast S32x128 eight)) (broadcast S32x128 0#32))
        (broadcastTo S32x128 (broadcast S32x128 (Scalar.cmpi .slt eight 0#32)) broadcasts_S32x128_S32x128))
      (cmpi .ne (remsi lane (broadcast S32x128 eight)) (broadcast S32x128 0#32)))
    (addi (remsi lane (broadcast S32x128 eight)) (broadcast S32x128 eight))
    (remsi lane (broadcast S32x128 eight))

/-- The words with only the lane's bit of each byte kept. -/
def masked (src : IVec S32x128 32) (base : BitVec 32) : IVec S32x128 32 :=
  andi
    (dynamicGather 1 src
      (shapeCast S32x128 (shapeCast S32x128x1 (column base) shapeCasts_S32x128_S32x128x1) shapeCasts_S32x128x1_S32x128))
    (shli (broadcast S32x128 16843009#32) laneMod)

/-- Is the bit set: the words read as bytes, converted and compared with zero. -/
def isSet (src : IVec S32x128 32) (base : BitVec 32) : IVec S128x128 1 :=
  cmpf .one
    (sitofp .bf16 (bitcast S128x128 8 (masked src base) bitcasts_S32x128_w32_S128x128_w8) : FVec F S128x128 .bf16)
    (broadcast S128x128 (Scalar.ofBits .bf16 0x0000#16))

/-- The chunk: the scaled integer where the mask bit is set, else plus or minus alpha by the sign bit. -/
def chunk (mask sign : IVec S32x128 32) (base : BitVec 32) (s a : FVec F S128x128 .bf16) (q : Vec F S128x128 .i8) :
    FVec F S128x128 .bf16 :=
  shapeCast S128x128
    (select (isSet (F := F) mask base) (mulf (sitofp .bf16 q) s)
      (select (isSet (F := F) sign base) a (subf (broadcast S128x128 (Scalar.ofBits .bf16 0x0000#16)) a)))
    shapeCasts_S128x128_S128x128

/-- The packed words of chunks 0 to 7: the first 128 columns. -/
def head (w : IVec S32x144 32) : IVec S32x128 32 :=
  extractStridedSlice S32x128 ![0, 0] w slices_S32x144_o0_0_S32x128

/-- The packed words of chunk 8: the last 16 columns, and zeros. -/
def tail (w : IVec S32x144 32) : IVec S32x128 32 :=
  concatenate S32x128 1
    [⟨S32x16, extractStridedSlice S32x16 ![0, 128] w slices_S32x144_o0_128_S32x16⟩, ⟨S32x112, broadcast S32x112 0#32⟩]
    concatenates_S32x16_S32x112_S32x128_d1

/-- The bytes read as words: four rows to a word. -/
def words (v : Vec F S128x144 .i8) : IVec S32x144 32 := bitcast S32x144 32 v bitcasts_S128x144_w8_S32x144_w32

/-- A row of 128 scales laid along the rows of a chunk. -/
def rowScale (v : Vec F S1x128 .f32) : FVec F S128x128 .bf16 :=
  truncf .bf16
    (transpose S128x128 [1, 0]
      (broadcastTo S128x128 (shapeCast S1x128 (shapeCast S1x128 v shapeCasts_S1x128_S1x128) shapeCasts_S1x128_S1x128)
        broadcasts_S1x128_S128x128)
      transposes_S128x128_p1_0_S128x128)
    bitsLt_bf16_f32

end Cert.KernelIdeal.Chunk
-- ==== Proof.Bits.lean ====
/-
  The word arithmetic behind the bit expansion.

  A 32-bit word holds four bytes. Masked with `0x01010101` shifted left by `j`, each byte keeps only its bit `j`; so byte
  `b` of the masked word is nonzero exactly when bit `8 b + j` of the word is set. The lane number is divided by eight
  with remainder; the printed quotient and remainder carry corrections for negative operands that never apply.
-/
module

public import proofs.«01_k».proof.Proof.Expand
public import Idealize.ShloMosaic.Lib.Pointwise
public import Idealize.ShloMosaic.Lib.BitcastFour

@[expose] public section

set_option maxRecDepth 16384

noncomputable section

namespace Cert.KernelIdeal.Chunk

open Cert.KernelIdeal Cert.KernelIdeal.Gen Idealize.ShloMosaic Idealize.SL.Sem

/-- The lane number over eight is the quotient. -/
theorem laneDiv_apply (w : Fin 32) (l : Fin 128) : laneDiv (ix2 w l) = BitVec.ofNat 32 (l.val / 8) := by
  unfold laneDiv lane
  pointwise
  revert l
  decide +kernel

/-- The lane number modulo eight is the remainder. -/
theorem laneMod_apply (w : Fin 32) (l : Fin 128) : laneMod (ix2 w l) = BitVec.ofNat 32 (l.val % 8) := by
  unfold laneMod lane eight
  pointwise
  revert l
  decide +kernel

/-- The packed column of lane `l` is `base + l / 8`: no wrap happens. -/
theorem column_apply (base : Fin 113) (w : Fin 32) (l : Fin 128) :
    column (BitVec.ofNat 32 base.val) (ix2 w l) = BitVec.ofNat 32 (base.val + l.val / 8) := by
  unfold column
  pointwise
  rw [laneDiv_apply]
  have hd : ∀ (b : Fin 113) (d : Fin 16),
      Scalar.select (IntOp.cmpi CmpIPredicate.slt (IntOp.addi (BitVec.ofNat 32 b.val) (BitVec.ofNat 32 d.val)) 0#32)
        (IntOp.addi (IntOp.addi (BitVec.ofNat 32 b.val) (BitVec.ofNat 32 d.val)) 128#32)
        (IntOp.addi (BitVec.ofNat 32 b.val) (BitVec.ofNat 32 d.val)) = BitVec.ofNat 32 (b.val + d.val) := by
    decide +kernel
  exact hd base ⟨l.val / 8, by omega⟩

/-- Bit `8 b + i` of the mask for bit `j` is set exactly at `i = j`. -/
theorem mask_bit : ∀ (j : Fin 8) (b : Fin 4) (i : Fin 8),
    (IntOp.shli ArithUnit.vector 16843009#32 (BitVec.ofNat 32 j.val)).getLsbD (8 * b.val + i.val) = decide (i = j) := by
  decide +kernel

/-- A masked word's byte is nonzero exactly when the kept bit is set. -/
theorem byte_ne_zero (x : BitVec 32) (j : Fin 8) (b : Fin 4) (y : BitVec 8)
    (hy : ∀ i : Fin 8, y.getLsbD i.val
      = (IntOp.andi x (IntOp.shli ArithUnit.vector 16843009#32 (BitVec.ofNat 32 j.val))).getLsbD (8 * b.val + i.val)) :
    y ≠ 0#8 ↔ x.getLsbD (8 * b.val + j.val) = true := by
  have hy' : ∀ i : Fin 8, y.getLsbD i.val = (x.getLsbD (8 * b.val + i.val) && decide (i = j)) := fun i => by
    rw [hy i, IntOp.andi, BitVec.getLsbD_and, mask_bit j b i]
  constructor
  · intro hne
    by_contra hx
    refine hne (BitVec.eq_of_getLsbD_eq fun i hi => ?_)
    rw [hy' ⟨i, hi⟩, BitVec.getLsbD_zero]
    by_cases hij : (⟨i, hi⟩ : Fin 8) = j
    · subst hij
      simpa using hx
    · simp [hij]
  · rintro hx rfl
    have := hy' j
    rw [BitVec.getLsbD_zero, hx] at this
    simp at this

/-- The masked words at row `w`, lane `l`. -/
theorem masked_apply (src : IVec S32x128 32) (base : Fin 113) (w : Fin 32) (l : Fin 128) :
    masked src (BitVec.ofNat 32 base.val) (ix2 w l)
      = IntOp.andi (src (ix2 w ⟨base.val + l.val / 8, by omega⟩))
          (IntOp.shli ArithUnit.vector 16843009#32 (BitVec.ofNat 32 (l.val % 8))) := by
  unfold masked
  pointwise
  have hc := congrArg BitVec.toNat (column_apply base w l)
  have hm : (base.val + l.val / 8) % 2 ^ 32 % 128 = base.val + l.val / 8 := by omega
  rw [laneMod_apply]
  congr 3
  apply Fin.ext
  show (column (BitVec.ofNat 32 base.val) (ix2 w l)).toNat % 128 = _
  rw [hc, BitVec.toNat_ofNat, hm]

/-- The words read as bytes: bit `i` of row `r` is bit `8 (r % 4) + i` of word row `r / 4`. -/
theorem bytes_getLsbD (x : IVec S32x128 32) (r l : Fin 128) (i : ℕ) (hi : i < 8) :
    (bitcast S128x128 8 x bitcasts_S32x128_w32_S128x128_w8 (ix2 r l)).getLsbD i
      = (x (ix2 ⟨r.val / 4, by omega⟩ l)).getLsbD (8 * (r.val % 4) + i) := by
  rw [bitcast_getLsbD x _ _ i hi (by decide)]
  have hrow : S128x128.row (ix2 r l) = r.val := rfl
  have hq : (S128x128.row (ix2 r l) * 8 + i) / 32 = r.val / 4 := by rw [hrow]; omega
  have hm : (S128x128.row (ix2 r l) * 8 + i) % 32 = 8 * (r.val % 4) + i := by rw [hrow]; omega
  rw [hm]
  congr 2
  funext a
  match a with
  | ⟨0, _⟩ => exact Fin.ext ((Shape.Bitcasts.srcIdx_row _ _ _ _ ⟨0, Nat.zero_lt_two⟩ rfl).trans hq)
  | ⟨1, _⟩ => exact Fin.ext (Shape.Bitcasts.srcIdx_other _ _ _ _ ⟨1, Nat.one_lt_two⟩ (by show ¬ 1 + 2 = 2; omega))

/-- The bytes read as words: bit `8 (r % 4) + j` of word row `r / 4` is bit `j` of byte row `r`. -/
theorem words_getLsbD (v : Vec Ideal S128x144 .i8) (r : Fin 128) (p : Fin 144) (j : ℕ) (hj : j < 8) :
    (words (F := Ideal) v (ix2 ⟨r.val / 4, by omega⟩ p)).getLsbD (8 * (r.val % 4) + j)
      = BitVec.getLsbD (w := 8) (v (ix2 r p)) j := by
  unfold words
  refine (bitcast_8_32_getLsbD_ix2 v _ ⟨r.val / 4, by omega⟩ p _ (by omega) r ?_).trans ?_
  · show r.val = 4 * (r.val / 4) + (8 * (r.val % 4) + j) / 8
    omega
  · congr 1
    omega

/-- The kernel's test of a bit: of the word row holding byte row `r`, the bit of `r`'s byte that lane `l` names. -/
theorem isSet_apply (src : IVec S32x128 32) (base : Fin 113) (r l : Fin 128) :
    isSet (F := Ideal) src (BitVec.ofNat 32 base.val) (ix2 r l)
      = BitVec.ofBool ((src (ix2 ⟨r.val / 4, by omega⟩ ⟨base.val + l.val / 8, by omega⟩)).getLsbD
          (8 * (r.val % 4) + l.val % 8)) := by
  unfold isSet
  pointwise
  congr 1
  have hb := byte_ne_zero (src (ix2 ⟨r.val / 4, by omega⟩ ⟨base.val + l.val / 8, by omega⟩)) ⟨l.val % 8, by omega⟩
    ⟨r.val % 4, by omega⟩
    (bitcast S128x128 8 (masked src (BitVec.ofNat 32 base.val)) bitcasts_S32x128_w32_S128x128_w8 (ix2 r l))
    (fun i => by rw [bytes_getLsbD _ r l i.val i.isLt, masked_apply])
  rw [Bool.eq_iff_iff, decide_eq_true_iff, ← hb]
  rw [not_iff_not]
  show (((BitVec.toInt _ : ℤ) : ℝ) : EReal) = 0 ↔ _
  rw [EReal.coe_eq_zero, Int.cast_eq_zero, ← BitVec.toInt_inj]
  rfl

end Cert.KernelIdeal.Chunk
-- ==== Proof.Trip.lean ====
/-
  One trip of the weight loop. The nine blocks that trip `k` stores into the weight scratch are the nine column chunks of
  the 128 rows starting at `128 k`, each the same function (`Chunk.chunk`) of the trip's loads.
-/
module

public import proofs.«01_k».proof.Proof.Expand
public import proofs.«01_k».proof.Proof.Gen.KernelIdeal.Loops

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Idealize.SL.Sem

variable {F : FTy → Type} [FloatOps F]

/-- The pieces of trip `k`, last store first. -/
theorem trip_pieces (𝒱 : Variants) (c : Dev nD) (bd : Option 𝒱.V) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (k0_h1 : k0_cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    (trip_k0_t1 (F := F) 𝒱 c bd i arg1 harg1 arg2 harg2 arg3 harg3 arg4 harg4 arg5 harg5 arg6 harg6 arg7 harg7 arg8 harg8 k0_h1 X_arg2 X_arg3 X_arg4 X_arg5 X_arg6 k).1
      = [⟨Rect.unit (s := S4608x1152) (k0_off11 k) S128x128.size (k0_off11_inb i k k0_h1),
        chunk (tail (words (F := F) (arg2.view.readAt (Elt F) (Rect.unit (s := S4608x144) (k0_off1 k) S128x144.size (k0_off1_inb i k k0_h1)).toLoadRect X_arg2)))
          (tail (words (F := F) (arg3.view.readAt (Elt F) (Rect.unit (s := S4608x144) (k0_off1 k) S128x144.size (k0_off1_inb i k k0_h1)).toLoadRect X_arg3)))
          0#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off11 k) S128x128.size (k0_off11_inb i k k0_h1)).toLoadRect X_arg4)⟩,
        ⟨Rect.unit (s := S4608x1152) (k0_off10 k) S128x128.size (k0_off10_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          112#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off10 k) S128x128.size (k0_off10_inb i k k0_h1)).toLoadRect X_arg4)⟩,
        ⟨Rect.unit (s := S4608x1152) (k0_off9 k) S128x128.size (k0_off9_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          96#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off9 k) S128x128.size (k0_off9_inb i k k0_h1)).toLoadRect X_arg4)⟩,
        ⟨Rect.unit (s := S4608x1152) (k0_off8 k) S128x128.size (k0_off8_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          80#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off8 k) S128x128.size (k0_off8_inb i k k0_h1)).toLoadRect X_arg4)⟩,
        ⟨Rect.unit (s := S4608x1152) (k0_off7 k) S128x128.size (k0_off7_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          64#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off7 k) S128x128.size (k0_off7_inb i k k0_h1)).toLoadRect X_arg4)⟩,
        ⟨Rect.unit (s := S4608x1152) (k0_off6 k) S128x128.size (k0_off6_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          48#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off6 k) S128x128.size (k0_off6_inb i k k0_h1)).toLoadRect X_arg4)⟩,
        ⟨Rect.unit (s := S4608x1152) (k0_off5 k) S128x128.size (k0_off5_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          32#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off5 k) S128x128.size (k0_off5_inb i k k0_h1)).toLoadRect X_arg4)⟩,
        ⟨Rect.unit (s := S4608x1152) (k0_off4 k) S128x128.size (k0_off4_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          16#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off4 k) S128x128.size (k0_off4_inb i k k0_h1)).toLoadRect X_arg4)⟩,
        ⟨Rect.unit (s := S4608x1152) (k0_off3 k) S128x128.size (k0_off3_inb i k k0_h1),
        chunk (head (words (F := F) (arg2.view.readAt (Elt F) (Rect.unit (s := S4608x144) (k0_off1 k) S128x144.size (k0_off1_inb i k k0_h1)).toLoadRect X_arg2)))
          (head (words (F := F) (arg3.view.readAt (Elt F) (Rect.unit (s := S4608x144) (k0_off1 k) S128x144.size (k0_off1_inb i k k0_h1)).toLoadRect X_arg3)))
          0#32
          (rowScale (arg5.view.readAt (Elt F) (Rect.unit (s := S36x128) (k0_off2 k) S1x128.size (k0_off2_inb i k k0_h1)).toLoadRect X_arg5))
          (rowScale (arg6.view.readAt (Elt F) (Rect.unit (s := S36x128) (k0_off2 k) S1x128.size (k0_off2_inb i k k0_h1)).toLoadRect X_arg6))
          (arg4.view.readAt (Elt F) (Rect.unit (s := S4608x1152) (k0_off3 k) S128x128.size (k0_off3_inb i k k0_h1)).toLoadRect X_arg4)⟩] := by
  unfold trip_k0_t1
  sl_unfold_words
  rfl

end Cert.KernelIdeal.Chunk
-- ==== Proof.Weights.lean ====
/-
  The weight that the kernel builds at its first grid point.

  `entry` is one weight as the extended reals see it: the integer times the row's scale where the mask bit is set, else
  plus or minus the row's alpha by the sign bit. `weight` is the whole 4608 by 1152 array of them, over the packed mask
  and sign, the integers, and the scales laid out 36 by 128. Every block that a trip of the kernel's loop stores is the
  block of `weight` that its rectangle names.
-/
module

public import proofs.«01_k».proof.Proof.Bits
public import proofs.«01_k».proof.Proof.Trip
public import Idealize.ShloMosaic.Lib.Pipeline.ReadBack

@[expose] public section

set_option maxRecDepth 16384

noncomputable section

namespace Cert.KernelIdeal.Chunk

open Cert.KernelIdeal Cert.KernelIdeal.Gen Idealize.ShloMosaic Idealize.ShloMosaic.TcCoe
open Idealize.SL.Sem

/-- One weight: mask byte `m`, sign byte `sg`, bit number `j`, integer `q`, scale `s`, alpha `a`. -/
def entry (m sg : BitVec 8) (j : ℕ) (q : BitVec 8) (s a : EReal) : EReal :=
  if m.getLsbD j then ((q.toInt : ℝ) : EReal) * s else if sg.getLsbD j then a else -a

/-- The weight, row by row and column by column. -/
def weight (m sg : Vec Ideal S4608x144 .i8) (q : Vec Ideal S4608x1152 .i8) (s a : Vec Ideal S36x128 .f32) :
    Vec Ideal S4608x1152 .bf16 := fun i =>
  entry (m (ix2 (i 0) ⟨(i 1).val / 8, by have : (i 1).val < 1152 := (i 1).isLt; omega⟩))
    (sg (ix2 (i 0) ⟨(i 1).val / 8, by have : (i 1).val < 1152 := (i 1).isLt; omega⟩))
    ((i 1).val % 8) (q i)
    (s (ix2 ⟨(i 0).val / 128, by have : (i 0).val < 4608 := (i 0).isLt; omega⟩ ⟨(i 0).val % 128, by omega⟩))
    (a (ix2 ⟨(i 0).val / 128, by have : (i 0).val < 4608 := (i 0).isLt; omega⟩ ⟨(i 0).val % 128, by omega⟩))

/-- A row of scales laid along the rows: row `r` holds scale `r`. -/
theorem rowScale_apply (v : Vec Ideal S1x128 .f32) (r l : Fin 128) :
    rowScale (F := Ideal) v (ix2 r l) = v (ix2 0 r) := by
  unfold rowScale
  pointwise

/-- The first 128 packed columns. -/
theorem head_apply (v : IVec S32x144 32) (w : Fin 32) (p : Fin 128) :
    head v (ix2 w p) = v (ix2 w ⟨p.val, by omega⟩) := by
  unfold head
  pointwise

/-- The last 16 packed columns. -/
theorem tail_apply (v : IVec S32x144 32) (w : Fin 32) (p : Fin 128) (hp : p.val < 16) :
    tail v (ix2 w p) = v (ix2 w ⟨128 + p.val, by omega⟩) := by
  unfold tail
  pointwise
  exact dif_pos hp

/-- A chunk over any packed words `wm`, `ws` that hold, at the lanes' columns, the bits of the byte columns starting at
    column `b0`. -/
theorem chunk_entry (wm ws : IVec S32x128 32) (base : Fin 113) (b0 : Fin 129) (m sg : Vec Ideal S128x144 .i8)
    (s a : Vec Ideal S1x128 .f32) (q : Vec Ideal S128x128 .i8)
    (hm : ∀ (w : Fin 32) (d : Fin 16), wm (ix2 w ⟨base.val + d.val, by omega⟩)
      = words (F := Ideal) m (ix2 w ⟨b0.val + d.val, by omega⟩))
    (hs : ∀ (w : Fin 32) (d : Fin 16), ws (ix2 w ⟨base.val + d.val, by omega⟩)
      = words (F := Ideal) sg (ix2 w ⟨b0.val + d.val, by omega⟩)) (r l : Fin 128) :
    chunk (F := Ideal) wm ws (BitVec.ofNat 32 base.val) (rowScale s) (rowScale a) q (ix2 r l)
      = entry (m (ix2 r ⟨b0.val + l.val / 8, by omega⟩)) (sg (ix2 r ⟨b0.val + l.val / 8, by omega⟩)) (l.val % 8)
          (q (ix2 r l)) (s (ix2 0 r)) (a (ix2 0 r)) := by
  unfold chunk
  pointwise
  rw [isSet_apply, isSet_apply, rowScale_apply, rowScale_apply]
  rw [show wm (ix2 (⟨r.val / 4, by omega⟩ : Fin 32) (⟨base.val + l.val / 8, by omega⟩ : Fin 128)) = _ from
      hm ⟨r.val / 4, by omega⟩ ⟨l.val / 8, by omega⟩,
    show ws (ix2 (⟨r.val / 4, by omega⟩ : Fin 32) (⟨base.val + l.val / 8, by omega⟩ : Fin 128)) = _ from
      hs ⟨r.val / 4, by omega⟩ ⟨l.val / 8, by omega⟩,
    words_getLsbD m r _ (l.val % 8) (by omega), words_getLsbD sg r _ (l.val % 8) (by omega)]
  unfold entry
  rw [zero_sub]
  have hsel : ∀ (b : Bool) (x y : EReal), Scalar.select (BitVec.ofBool b) x y = if b then x else y := by
    intro b x y; cases b <;> rfl
  rw [hsel, hsel]
  rfl

/-- A trip's rectangle, at row `r` and lane `l` of its block. -/
theorem emb_unit_ix2 {R C n w : ℕ} (off : Fin 2 → ℕ) (o0 o1 : ℕ) (hoff : off = ![o0, o1])
    (inb : ∀ a, off a + (⟨2, ![n, w]⟩ : Shape).size a ≤ (⟨2, ![R, C]⟩ : Shape).size a) (r : Fin n) (l : Fin w)
    (hr : o0 + r.val < R) (hl : o1 + l.val < C) :
    (Rect.unit (s := (⟨2, ![R, C]⟩ : Shape)) off (⟨2, ![n, w]⟩ : Shape).size inb).emb (ix2 r l)
      = ix2 ⟨o0 + r.val, hr⟩ ⟨o1 + l.val, hl⟩ := by
  subst hoff
  funext a
  match a with
  | ⟨0, _⟩ => exact Fin.ext (by show o0 + 1 * r.val = o0 + r.val; omega)
  | ⟨1, _⟩ => exact Fin.ext (by show o1 + 1 * l.val = o1 + l.val; omega)

theorem trips_eq : k0_t1_loop.trips = 36 := by decide +kernel

/-- Chunk `c` of trip `k` is the block of `weight` at row `128 k`, column `128 c`. -/
theorem chunk_piece (x1 x2 : Vec Ideal S4608x144 .i8) (x3 : Vec Ideal S4608x1152 .i8) (x4 x5 : Vec Ideal S36x128 .f32)
    (k : Fin k0_t1_loop.trips) (c : Fin 9) (wm ws : IVec S32x128 32) (base : Fin 113)
    (m sg : Vec Ideal S128x144 .i8) (s a : Vec Ideal S1x128 .f32)
    (off1 off2 off : Fin 2 → ℕ) (h1 : off1 = ![128 * k.val, 0]) (h2 : off2 = ![k.val, 0])
    (ho : off = ![128 * k.val, 128 * c.val])
    (inb1 : ∀ a, off1 a + S128x144.size a ≤ S4608x144.size a)
    (inb2 : ∀ a, off2 a + S1x128.size a ≤ S36x128.size a)
    (inb : ∀ a, off a + S128x128.size a ≤ S4608x1152.size a)
    (hmv : m = View.ld (Val := Elt Ideal) x1 (Rect.unit off1 S128x144.size inb1))
    (hsv : sg = View.ld (Val := Elt Ideal) x2 (Rect.unit off1 S128x144.size inb1))
    (hs4 : s = View.ld (Val := Elt Ideal) x4 (Rect.unit off2 S1x128.size inb2))
    (ha5 : a = View.ld (Val := Elt Ideal) x5 (Rect.unit off2 S1x128.size inb2))
    (hm : ∀ (w : Fin 32) (d : Fin 16), wm (ix2 w ⟨base.val + d.val, by omega⟩)
      = words (F := Ideal) m (ix2 w ⟨16 * c.val + d.val, by omega⟩))
    (hs : ∀ (w : Fin 32) (d : Fin 16), ws (ix2 w ⟨base.val + d.val, by omega⟩)
      = words (F := Ideal) sg (ix2 w ⟨16 * c.val + d.val, by omega⟩))
    (x : S128x128.Idx) :
    chunk (F := Ideal) wm ws (BitVec.ofNat 32 base.val) (rowScale s) (rowScale a)
        (View.ld (Val := Elt Ideal) x3 (Rect.unit off S128x128.size inb)) x
      = weight x1 x2 x3 x4 x5 ((Rect.unit (s := S4608x1152) off S128x128.size inb).emb x) := by
  obtain ⟨r, l, rfl⟩ : ∃ r l : Fin 128, x = ix2 r l := ⟨x 0, x 1, eq_ix2 x⟩
  have hk : k.val < 36 := trips_eq ▸ k.isLt
  rw [chunk_entry wm ws base ⟨16 * c.val, by omega⟩ m sg s a _ hm hs r l]
  subst hmv hsv hs4 ha5
  show entry (x1 ((Rect.unit (s := S4608x144) off1 S128x144.size inb1).emb (ix2 r _))) (x2 ((Rect.unit (s := S4608x144) off1 S128x144.size inb1).emb (ix2 r _)))
    _ (x3 ((Rect.unit (s := S4608x1152) off S128x128.size inb).emb (ix2 r l))) (x4 ((Rect.unit (s := S36x128) off2 S1x128.size inb2).emb (ix2 0 r)))
    (x5 ((Rect.unit (s := S36x128) off2 S1x128.size inb2).emb (ix2 0 r))) = _
  rw [emb_unit_ix2 off1 (128 * k.val) 0 h1 inb1 r ⟨16 * c.val + l.val / 8, by omega⟩ (by omega) (by show _ < 144; omega),
    emb_unit_ix2 off (128 * k.val) (128 * c.val) ho inb r l (by omega) (by omega),
    emb_unit_ix2 off2 k.val 0 h2 inb2 0 r (by show _ < 36; simpa using hk) (by omega)]
  unfold weight
  have hp : (128 * c.val + l.val) / 8 = 0 + (16 * c.val + l.val / 8) := by omega
  have hj : (128 * c.val + l.val) % 8 = l.val % 8 := by omega
  have hg : (128 * k.val + r.val) / 128 = k.val + (0 : Fin 1).val := by simp; omega
  have hr : (128 * k.val + r.val) % 128 = 0 + r.val := by omega
  congr 1
  · exact congrArg x1 (congrArg (ix2 _) (Fin.ext hp.symm))
  · exact congrArg x2 (congrArg (ix2 _) (Fin.ext hp.symm))
  · exact hj.symm
  · exact congrArg x4 (congrArg₂ ix2 (Fin.ext hg.symm) (Fin.ext hr.symm))
  · exact congrArg x5 (congrArg₂ ix2 (Fin.ext hg.symm) (Fin.ext hr.symm))

end Cert.KernelIdeal.Chunk
-- ==== Proof.Scratch.lean ====
/-
  The weight scratch after the loop.

  The pieces that the loop's trips store are blocks of `Chunk.weight` (Weights.lean), and together they cover the scratch;
  so after the loop the scratch holds `Chunk.weight` of the arguments, whatever it held before.
-/
module

public import proofs.«01_k».proof.Proof.Weights
public import proofs.«01_k».proof.Proof.Gen.KernelIdeal.Frame

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Idealize.SL.Sem

/-- What a trip loads from a whole argument: the block that its rectangle names. -/
theorem load_unread {S : Shape} {e : EltTy} {arg : Memref sig .tc .vmem S e} (h : arg.IsWhole) (x : Vec Ideal S e) (r : Rect S) :
    arg.view.readAt (Elt Ideal) r.toLoadRect (h.unread x) = View.ld (Val := Elt Ideal) x r := by
  rw [View.readAt_eq_ld, h.read_unread]

/-- Every piece of trip `k` is a block of the weight. -/
theorem trip_blocks (𝒱 : Variants) (c : Dev nD) (bd : Option 𝒱.V) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (k0_h1 : k0_cond1 i = 1#1)
    (x1 x2 : Vec Ideal S4608x144 .i8) (x3 : Vec Ideal S4608x1152 .i8) (x4 x5 : Vec Ideal S36x128 .f32) (k : Fin k0_t1_loop.trips) :
    View.PiecesOf (weight x1 x2 x3 x4 x5)
      (tripL_k0_t1 (F := Ideal) 𝒱 c bd i arg1 harg1 arg2 harg2 arg3 harg3 arg4 harg4 arg5 harg5 arg6 harg6 arg7 harg7 arg8 harg8 k0_h1 (harg2.unread x1) (harg3.unread x2) (harg4.unread x3) (harg5.unread x4) (harg6.unread x5) k) := by
  show View.PiecesOf _ (trip_k0_t1 (F := Ideal) 𝒱 c bd i arg1 harg1 arg2 harg2 arg3 harg3 arg4 harg4 arg5 harg5 arg6 harg6 arg7 harg7 arg8 harg8 k0_h1 (harg2.unread x1) (harg3.unread x2) (harg4.unread x3) (harg5.unread x4) (harg6.unread x5) k).1
  rw [trip_pieces]
  simp only [load_unread]
  refine ⟨
    fun x => chunk_piece x1 x2 x3 x4 x5 k 8 _ _ 0 _ _ _ _ _ _ _ (k0_off1_eq k) (k0_off2_eq k) (k0_off11_eq k)
      (k0_off1_inb i k k0_h1) (k0_off2_inb i k k0_h1) (k0_off11_inb i k k0_h1) rfl rfl rfl rfl
      (fun w d => by
        rw [tail_apply _ _ _ (by show 0 + d.val < 16; omega)]
        exact congrArg _ (congrArg (ix2 w) (Fin.ext (by show 128 + (0 + d.val) = 16 * 8 + d.val; omega))))
      (fun w d => by
        rw [tail_apply _ _ _ (by show 0 + d.val < 16; omega)]
        exact congrArg _ (congrArg (ix2 w) (Fin.ext (by show 128 + (0 + d.val) = 16 * 8 + d.val; omega)))) x,
    fun x => chunk_piece x1 x2 x3 x4 x5 k 7 _ _ 112 _ _ _ _ _ _ _ (k0_off1_eq k) (k0_off2_eq k) (k0_off10_eq k)
      (k0_off1_inb i k k0_h1) (k0_off2_inb i k k0_h1) (k0_off10_inb i k k0_h1) rfl rfl rfl rfl
      (fun w d => by
        rw [head_apply]
        exact congrArg _ (congrArg (ix2 w) (Fin.ext (by show 112 + d.val = 16 * 7 + d.val; omega))))
      (fun w d => by
        rw [head_apply]
        exact congrArg _ (congrArg (ix2 w) (Fin.ext (by show 112 + d.val = 16 * 7 + d.val; omega)))) x,
    fun x => chunk_piece x1 x2 x3 x4 x5 k 6 _ _ 96 _ _ _ _ _ _ _ (k0_off1_eq k) (k0_off2_eq k) (k0_off9_eq k)
      (k0_off1_inb i k k0_h1) (k0_off2_inb i k k0_h1) (k0_off9_inb i k k0_h1) rfl rfl rfl rfl
      (fun w d => by
        rw [head_apply]
        exact congrArg _ (congrArg (ix2 w) (Fin.ext (by show 96 + d.val = 16 * 6 + d.val; omega))))
      (fun w d => by
        rw [head_apply]
        exact congrArg _ (congrArg (ix2 w) (Fin.ext (by show 96 + d.val = 16 * 6 + d.val; omega)))) x,
    fun x => chunk_piece x1 x2 x3 x4 x5 k 5 _ _ 80 _ _ _ _ _ _ _ (k0_off1_eq k) (k0_off2_eq k) (k0_off8_eq k)
      (k0_off1_inb i k k0_h1) (k0_off2_inb i k k0_h1) (k0_off8_inb i k k0_h1) rfl rfl rfl rfl
      (fun w d => by
        rw [head_apply]
        exact congrArg _ (congrArg (ix2 w) (Fin.ext (by show 80 + d.val = 16 * 5 + d.val; omega))))
      (fun w d => by
        rw [head_apply]
        exact congrArg _ (congrArg (ix2 w) (Fin.ext (by show 80 + d.val = 16 * 5 + d.val; omega)))) x,
    fun x => chunk_piece x1 x2 x3 x4 x5 k 4 _ _ 64 _ _ _ _ _ _ _ (k0_off1_eq k) (k0_off2_eq k) (k0_off7_eq k)
      (k0_off1_inb i k k0_h1) (k0_off2_inb i k k0_h1) (k0_off7_inb i k k0_h1) rfl rfl rfl rfl
      (fun w d => by
        rw [head_apply]
        exact congrArg _ (congrArg (ix2 w) (Fin.ext (by show 64 + d.val = 16 * 4 + d.val; omega))))
      (fun w d => by
        rw [head_apply]
        exact congrArg _ (congrArg (ix2 w) (Fin.ext (by show 64 + d.val = 16 * 4 + d.val; omega)))) x,
    fun x => chunk_piece x1 x2 x3 x4 x5 k 3 _ _ 48 _ _ _ _ _ _ _ (k0_off1_eq k) (k0_off2_eq k) (k0_off6_eq k)
      (k0_off1_inb i k k0_h1) (k0_off2_inb i k k0_h1) (k0_off6_inb i k k0_h1) rfl rfl rfl rfl
      (fun w d => by
        rw [head_apply]
        exact congrArg _ (congrArg (ix2 w) (Fin.ext (by show 48 + d.val = 16 * 3 + d.val; omega))))
      (fun w d => by
        rw [head_apply]
        exact congrArg _ (congrArg (ix2 w) (Fin.ext (by show 48 + d.val = 16 * 3 + d.val; omega)))) x,
    fun x => chunk_piece x1 x2 x3 x4 x5 k 2 _ _ 32 _ _ _ _ _ _ _ (k0_off1_eq k) (k0_off2_eq k) (k0_off5_eq k)
      (k0_off1_inb i k k0_h1) (k0_off2_inb i k k0_h1) (k0_off5_inb i k k0_h1) rfl rfl rfl rfl
      (fun w d => by
        rw [head_apply]
        exact congrArg _ (congrArg (ix2 w) (Fin.ext (by show 32 + d.val = 16 * 2 + d.val; omega))))
      (fun w d => by
        rw [head_apply]
        exact congrArg _ (congrArg (ix2 w) (Fin.ext (by show 32 + d.val = 16 * 2 + d.val; omega)))) x,
    fun x => chunk_piece x1 x2 x3 x4 x5 k 1 _ _ 16 _ _ _ _ _ _ _ (k0_off1_eq k) (k0_off2_eq k) (k0_off4_eq k)
      (k0_off1_inb i k k0_h1) (k0_off2_inb i k k0_h1) (k0_off4_inb i k k0_h1) rfl rfl rfl rfl
      (fun w d => by
        rw [head_apply]
        exact congrArg _ (congrArg (ix2 w) (Fin.ext (by show 16 + d.val = 16 * 1 + d.val; omega))))
      (fun w d => by
        rw [head_apply]
        exact congrArg _ (congrArg (ix2 w) (Fin.ext (by show 16 + d.val = 16 * 1 + d.val; omega)))) x,
    fun x => chunk_piece x1 x2 x3 x4 x5 k 0 _ _ 0 _ _ _ _ _ _ _ (k0_off1_eq k) (k0_off2_eq k) (k0_off3_eq k)
      (k0_off1_inb i k k0_h1) (k0_off2_inb i k k0_h1) (k0_off3_inb i k k0_h1) rfl rfl rfl rfl
      (fun w d => by
        rw [head_apply]
        exact congrArg _ (congrArg (ix2 w) (Fin.ext (by show 0 + d.val = 16 * 0 + d.val; omega))))
      (fun w d => by
        rw [head_apply]
        exact congrArg _ (congrArg (ix2 w) (Fin.ext (by show 0 + d.val = 16 * 0 + d.val; omega)))) x,
    trivial⟩

/-- Every piece of the trips before `n` is a block of the weight. -/
theorem loop_blocks (𝒱 : Variants) (c : Dev nD) (bd : Option 𝒱.V) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (k0_h1 : k0_cond1 i = 1#1)
    (x1 x2 : Vec Ideal S4608x144 .i8) (x3 : Vec Ideal S4608x1152 .i8) (x4 x5 : Vec Ideal S36x128 .f32) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 k0_h1 (harg2.unread x1) (harg3.unread x2) (harg4.unread x3) (harg5.unread x4) (harg6.unread x5) n,
      ∀ x : p.1.shape.Idx, p.2 x = weight x1 x2 x3 x4 x5 (p.1.emb x)
  | 0, _, p, hp => absurd hp List.not_mem_nil
  | n + 1, hn, p, hp => by
    rw [pb_k0_t1_succ (F := Ideal) 𝒱 c bd i arg1 harg1 arg2 harg2 arg3 harg3 arg4 harg4 arg5 harg5 arg6 harg6 arg7 harg7 arg8 harg8 k0_h1 (harg2.unread x1) (harg3.unread x2) (harg4.unread x3) (harg5.unread x4) (harg6.unread x5) ⟨n, hn⟩] at hp
    rcases List.mem_append.mp hp with hp | hp
    · exact (trip_blocks 𝒱 c bd i arg1 harg1 arg2 harg2 arg3 harg3 arg4 harg4 arg5 harg5 arg6 harg6 arg7 harg7 arg8 harg8 k0_h1 x1 x2 x3 x4 x5 ⟨n, hn⟩).mem p hp
    · exact loop_blocks 𝒱 c bd i arg1 harg1 arg2 harg2 arg3 harg3 arg4 harg4 arg5 harg5 arg6 harg6 arg7 harg7 arg8 harg8 k0_h1 x1 x2 x3 x4 x5 n (Nat.le_of_succ_le hn) p hp

end Cert.KernelIdeal.Chunk
-- ==== Proof.Blocks.lean ====
/-
  What each grid point leaves.

  At the first point the loop fills the weight scratch, and the point's output block is the product of its rows of `x` with
  the weight. At every later point the scratch still holds the weight of the first point, and the block is the product
  again.
-/
module

public import proofs.«01_k».proof.Proof.Scratch
public import proofs.«01_k».proof.Proof.Gen.KernelIdeal.Value
public import Idealize.ShloMosaic.Lib.Pipeline.ValueKit

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Idealize.SL.Sem

/-- The pieces of the whole loop, put together, are the weight. -/
theorem canon_loop (c : Dev nD) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (hc0 : cond0_0 i)
    (x0 : Vec Ideal S512x1152 .bf16) (x1 x2 : Vec Ideal S4608x144 .i8) (x3 : Vec Ideal S4608x1152 .i8)
    (x4 x5 : Vec Ideal S36x128 .f32) :
    View.canon (kernelRun0_A (F := Ideal) c i arg1 harg1 arg2 harg2 arg3 harg3 arg4 harg4 arg5 harg5 arg6 harg6 arg7 harg7 arg8 harg8 hc0 x0 x1 x2 x3 x4 x5).2.1 = weight x1 x2 x3 x4 x5 := by
  funext y
  refine View.canon_apply_of_pieces _ _ ?_ y (scover0_A_0 c i arg1 harg1 arg2 harg2 arg3 harg3 arg4 harg4 arg5 harg5 arg6 harg6 arg7 harg7 arg8 harg8 hc0 x0 x1 x2 x3 x4 x5 y)
  unfold kernelRun0_A
  sl_unfold_words
  exact loop_blocks Variants.none c none i arg1 harg1 arg2 harg2 arg3 harg3 arg4 harg4 arg5 harg5 arg6 harg6 arg7 harg7 arg8 harg8 hc0 x1 x2 x3 x4 x5 _ le_rfl

/-- The first point leaves the weight in the scratch. -/
theorem scratch_first (c : Dev nD) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (hc0 : cond0_0 i)
    (x0 : Vec Ideal S512x1152 .bf16) (x1 x2 : Vec Ideal S4608x144 .i8) (x3 : Vec Ideal S4608x1152 .i8)
    (x4 x5 : Vec Ideal S36x128 .f32) :
    sout0_A_0 (F := Ideal) c i arg1 harg1 arg2 harg2 arg3 harg3 arg4 harg4 arg5 harg5 arg6 harg6 arg7 harg7 arg8 harg8 hc0 x0 x1 x2 x3 x4 x5 = weight x1 x2 x3 x4 x5 := by
  unfold sout0_A_0
  rw [View.read_writes_junk_eq_canon, canon_loop]

/-- The first point's output block: its rows times the weight. -/
theorem out_first (c : Dev nD) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (hc0 : cond0_0 i)
    (x0 : Vec Ideal S512x1152 .bf16) (x1 x2 : Vec Ideal S4608x144 .i8) (x3 : Vec Ideal S4608x1152 .i8)
    (x4 x5 : Vec Ideal S36x128 .f32) :
    out0_A_6 (F := Ideal) c i arg1 harg1 arg2 harg2 arg3 harg3 arg4 harg4 arg5 harg5 arg6 harg6 arg7 harg7 arg8 harg8 hc0 x0 x1 x2 x3 x4 x5 = k0_pay2 x0 (weight x1 x2 x3 x4 x5) := by
  have hcan := canon_loop c i arg1 harg1 arg2 harg2 arg3 harg3 arg4 harg4 arg5 harg5 arg6 harg6 arg7 harg7 arg8 harg8 hc0 x0 x1 x2 x3 x4 x5
  revert hcan
  unfold out0_A_6
  unfold kernelRun0_A
  sl_unfold_words
  dsimp only
  intro hcan
  rw [View.read_writes_junk_eq_canon, View.canon_unit_zero (by funext a; fin_cases a <;> rfl), View.readCov_eq_canon', load_unread,
    View.ld_unit_zero (by funext a; fin_cases a <;> rfl)]
  rw [hcan]
  exact congrArg (k0_pay2 x0) (View.ld_unit_zero (by funext a; fin_cases a <;> rfl) _ (weight x1 x2 x3 x4 x5))

/-- A later point's output block: its rows times what the scratch holds. -/
theorem out_later (c : Dev nD) (i : grid0.Coords) (arg1 : Memref sig .tc .vmem S512x1152 .bf16) (harg1 : arg1.IsWhole) (arg2 : Memref sig .tc .vmem S4608x144 .i8) (harg2 : arg2.IsWhole) (arg3 : Memref sig .tc .vmem S4608x144 .i8) (harg3 : arg3.IsWhole) (arg4 : Memref sig .tc .vmem S4608x1152 .i8) (harg4 : arg4.IsWhole) (arg5 : Memref sig .tc .vmem S36x128 .f32) (harg5 : arg5.IsWhole) (arg6 : Memref sig .tc .vmem S36x128 .f32) (harg6 : arg6.IsWhole) (arg7 : Memref sig .tc .vmem S512x4608 .bf16) (harg7 : arg7.IsWhole) (arg8 : Memref sig .tc .vmem S4608x1152 .bf16) (harg8 : arg8.IsWhole) (hc0 : ¬cond0_0 i)
    (x0 : Vec Ideal S512x1152 .bf16) (x1 x2 : Vec Ideal S4608x144 .i8) (x3 : Vec Ideal S4608x1152 .i8)
    (x4 x5 : Vec Ideal S36x128 .f32) (xs0 : Vec Ideal S4608x1152 .bf16) :
    out0_B_6 (F := Ideal) c i arg1 harg1 arg2 harg2 arg3 harg3 arg4 harg4 arg5 harg5 arg6 harg6 arg7 harg7 arg8 harg8 hc0 x0 x1 x2 x3 x4 x5 xs0 = k0_pay2 x0 xs0 := by
  unfold out0_B_6
  unfold kernelRun0_B
  sl_unfold_words
  dsimp only
  rw [View.read_writes_junk_eq_canon, View.canon_unit_zero (by funext a; fin_cases a <;> rfl), load_unread, load_unread,
    View.ld_unit_zero (by funext a; fin_cases a <;> rfl), View.ld_unit_zero (by funext a; fin_cases a <;> rfl)]

variable (m : (ℓ : Loc nD τ sig) → Buf (Elt Ideal) ℓ)

/-- The weight of the arguments as the first point reads them. -/
def weight0 (c : Dev nD) : Vec Ideal S4608x1152 .bf16 :=
  weight (iblk m c 1 (0 : Fin 24)) (iblk m c 2 (0 : Fin 24)) (iblk m c 3 (0 : Fin 24)) (iblk m c 4 (0 : Fin 24)) (iblk m c 5 (0 : Fin 24))

/-- After every point: the output block is the point's rows times the weight, the scratch the weight. -/
theorem points (c : Dev nD) : ∀ (n : ℕ) (hn : n < cfg0.N),
    outsAt0 m c n hn = (k0_pay2 (iblk m c 0 ⟨n, hn⟩) (weight0 m c), weight0 m c)
  | 0, hn => by
    rw [outsAt0_A m c ⟨0, hn⟩ (Nat.zero_mod _), out_first, scratch_first]
    rfl
  | n + 1, hn => by
    have hN : n + 1 < 24 := lt_of_lt_of_eq hn N_0
    have h0 : ¬(n + 1) % 24 = 0 := by omega
    rw [outsAt0_B m c ⟨n + 1, hn⟩ h0, out_later]
    have ih := points c n (Nat.lt_of_succ_lt hn)
    show (k0_pay2 _ (outsAt0 m c n _).2, (outsAt0 m c n _).2) = _
    rw [ih]

end Cert.KernelIdeal.Chunk
-- ==== Proof.Product.lean ====
/-
  The kernel's result, element by element.

  `result` is the product that both programs compute: row `i` of `x` (its two leading axes laid one after the other)
  against row `n` of the weight, summed over the 1152 columns. The kernel's result array ends holding it.
-/
module

public import proofs.«01_k».proof.Proof.Blocks
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Idealize.SL.Sem

/-- The product, at each row of `x` and each output column. -/
def result (x : Vec Ideal S6x2048x1152 .bf16) (mask sign : Vec Ideal S4608x144 .i8) (q : Vec Ideal S4608x1152 .i8)
    (s a : Vec Ideal S4608 .f32) : Vec Ideal S12288x4608 .bf16 := fun i =>
  ∑ k : Fin 1152,
    x (ix3 ⟨(i 0).val / 2048, by have : (i 0).val < 12288 := (i 0).isLt; omega⟩ ⟨(i 0).val % 2048, by omega⟩ k)
      * entry (mask (ix2 (i 1) ⟨k.val / 8, by omega⟩)) (sign (ix2 (i 1) ⟨k.val / 8, by omega⟩)) (k.val % 8)
          (q (ix2 (i 1) k)) (s (ix1 (i 1))) (a (ix1 (i 1)))

/-- One element of an output block: the sum over the columns. -/
theorem product_apply (x : Vec Ideal S512x1152 .bf16) (w : Vec Ideal S4608x1152 .bf16) (i : S512x4608.Idx) :
    k0_pay2 (F := Ideal) x w i = ∑ k : Fin 1152, x (ix2 (i 0) k) * w (ix2 (i 1) k) := by
  unfold k0_pay2
  pointwise

/-- The two leading axes of `x` laid one after the other. -/
theorem rows_apply (x : Vec Ideal S6x2048x1152 .bf16) (R : Fin 12288) (k : Fin 1152) :
    shapeCast S12288x1152 x shapeCasts_S6x2048x1152_S12288x1152 (ix2 R k)
      = x (ix3 ⟨R.val / 2048, by omega⟩ ⟨R.val % 2048, by omega⟩ k) := by
  pointwise

variable (m : (ℓ : Loc nD τ sig) → Buf (Elt Ideal) ℓ)

/-- The scales as the pipeline finds them: the argument laid out 36 by 128. -/
theorem entry_scale (c : Dev nD) :
    V m c main_v0 = shapeCast S36x128 (m ((c : Thread nD τ).loc main_arg4)) shapeCasts_S4608_S36x128 := by
  unfold V hostOps0
  after_results_simp <;> rfl

/-- The alphas likewise. -/
theorem entry_alpha (c : Dev nD) :
    V m c main_v1 = shapeCast S36x128 (m ((c : Thread nD τ).loc main_arg5)) shapeCasts_S4608_S36x128 := by
  unfold V hostOps0
  after_results_simp <;> rfl

/-- The rows of `x` as the pipeline finds them: the argument's two leading axes laid one after the other. -/
theorem entry_rows (c : Dev nD) :
    V m c main_v2 = shapeCast S12288x1152 (m ((c : Thread nD τ).loc main_arg0)) shapeCasts_S6x2048x1152_S12288x1152 := by
  unfold V hostOps0
  after_results_simp <;> rfl

/-! Each of the windows 1 to 5 is its whole array. -/

theorem window1 (c : Dev nD) : (iblk m c 1 (0 : Fin 24) : Vec Ideal S4608x144 .i8) = V m c main_arg1 := by
  funext j
  unfold iblk
  rw [View.read_apply]
  show V m c main_arg1 _ = V m c main_arg1 j
  congr 1
  funext a
  apply Fin.ext
  match a with
  | ⟨0, _⟩ => show 0 * 4608 + 1 * (j 0).val = (j 0).val; omega
  | ⟨1, _⟩ => show 0 * 144 + 1 * (j 1).val = (j 1).val; omega

theorem window2 (c : Dev nD) : (iblk m c 2 (0 : Fin 24) : Vec Ideal S4608x144 .i8) = V m c main_arg2 := by
  funext j
  unfold iblk
  rw [View.read_apply]
  show V m c main_arg2 _ = V m c main_arg2 j
  congr 1
  funext a
  apply Fin.ext
  match a with
  | ⟨0, _⟩ => show 0 * 4608 + 1 * (j 0).val = (j 0).val; omega
  | ⟨1, _⟩ => show 0 * 144 + 1 * (j 1).val = (j 1).val; omega

theorem window3 (c : Dev nD) : (iblk m c 3 (0 : Fin 24) : Vec Ideal S4608x1152 .i8) = V m c main_arg3 := by
  funext j
  unfold iblk
  rw [View.read_apply]
  show V m c main_arg3 _ = V m c main_arg3 j
  congr 1
  funext a
  apply Fin.ext
  match a with
  | ⟨0, _⟩ => show 0 * 4608 + 1 * (j 0).val = (j 0).val; omega
  | ⟨1, _⟩ => show 0 * 1152 + 1 * (j 1).val = (j 1).val; omega

theorem window4 (c : Dev nD) : (iblk m c 4 (0 : Fin 24) : Vec Ideal S36x128 .f32) = V m c main_v0 := by
  funext j
  unfold iblk
  rw [View.read_apply]
  show V m c main_v0 _ = V m c main_v0 j
  congr 1
  funext a
  apply Fin.ext
  match a with
  | ⟨0, _⟩ => show 0 * 36 + 1 * (j 0).val = (j 0).val; omega
  | ⟨1, _⟩ => show 0 * 128 + 1 * (j 1).val = (j 1).val; omega

theorem window5 (c : Dev nD) : (iblk m c 5 (0 : Fin 24) : Vec Ideal S36x128 .f32) = V m c main_v1 := by
  funext j
  unfold iblk
  rw [View.read_apply]
  show V m c main_v1 _ = V m c main_v1 j
  congr 1
  funext a
  apply Fin.ext
  match a with
  | ⟨0, _⟩ => show 0 * 36 + 1 * (j 0).val = (j 0).val; omega
  | ⟨1, _⟩ => show 0 * 128 + 1 * (j 1).val = (j 1).val; omega

/-- Window 0 at point `t`: rows `512 t` to `512 t + 511`. -/
theorem window0 (c : Dev nD) (t : Fin cfg0.N) (r : Fin 512) (k : Fin 1152) :
    (iblk m c 0 t : Vec Ideal S512x1152 .bf16) (ix2 r k)
      = V m c main_v2 (ix2 ⟨512 * t.val + r.val, by have := lt_of_lt_of_eq t.isLt N_0; omega⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v2 _ = V m c main_v2 _
  congr 1
  funext a
  apply Fin.ext
  match a with
  | ⟨0, _⟩ => show win0_0.index t 0 * 512 + 1 * r.val = 512 * t.val + r.val; rw [hi.1]; omega
  | ⟨1, _⟩ => show win0_0.index t 1 * 1152 + 1 * k.val = k.val; rw [hi.2]; omega

/-- … so an element of `x`. -/
theorem window0_row (c : Dev nD) (t : Fin cfg0.N) (r : Fin 512) (k : Fin 1152) (R : Fin 12288) (hR : R.val = 512 * t.val + r.val) :
    (iblk m c 0 t : Vec Ideal S512x1152 .bf16) (ix2 r k)
      = (m ((c : Thread nD τ).loc main_arg0) : Vec Ideal S6x2048x1152 .bf16)
          (ix3 ⟨R.val / 2048, by omega⟩ ⟨R.val % 2048, by omega⟩ k) := by
  rw [window0, entry_rows, show (⟨512 * t.val + r.val, _⟩ : Fin 12288) = R from Fin.ext hR.symm]
  exact rows_apply _ R k

/-- One element of the weight over the arguments. -/
theorem weight0_apply (c : Dev nD) (n : Fin 4608) (k : Fin 1152) :
    weight0 m c (ix2 n k)
      = entry ((m ((c : Thread nD τ).loc main_arg1) : Vec Ideal S4608x144 .i8) (ix2 n ⟨k.val / 8, by omega⟩))
          ((m ((c : Thread nD τ).loc main_arg2) : Vec Ideal S4608x144 .i8) (ix2 n ⟨k.val / 8, by omega⟩)) (k.val % 8)
          ((m ((c : Thread nD τ).loc main_arg3) : Vec Ideal S4608x1152 .i8) (ix2 n k))
          ((m ((c : Thread nD τ).loc main_arg4) : Vec Ideal S4608 .f32) (ix1 n))
          ((m ((c : Thread nD τ).loc main_arg5) : Vec Ideal S4608 .f32) (ix1 n)) := by
  unfold weight0
  rw [window1, window2, window3, window4, window5, V_main_arg1, V_main_arg2, V_main_arg3, entry_scale, entry_alpha]
  unfold weight
  pointwise

/-- The result array ends holding the product. -/
theorem kernel_result (c : Dev nD) :
    Cert.KernelIdeal.Value.G6 (F := Ideal) m c
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  have h0 : (i 0).val < 12288 := (i 0).isLt
  have h1 : (i 1).val < 4608 := (i 1).isLt
  have hp : Cert.KernelIdeal.Value.pt6Of i = (i 0).val / 512 := by
    show 1 * ((i 0).val / 512 - 0) + 1 * ((i 1).val / 4608 - 0) = _
    omega
  have hN : Cert.KernelIdeal.Value.pt6Of i < cfg0.N := by
    rw [hp]; exact lt_of_lt_of_eq (by omega) N_0.symm
  unfold Cert.KernelIdeal.Value.G6
  rw [dif_pos hN, ← Cert.KernelIdeal.Value.outsAt0_sweep m c _ hN, points m c _ hN]
  dsimp only
  refine (product_apply _ _ _).trans (Finset.sum_congr (M := EReal) rfl fun k _ => ?_)
  have hx := window0_row m c ⟨Cert.KernelIdeal.Value.pt6Of i, hN⟩ (Cert.KernelIdeal.Value.loc6Of i 0) k
    ⟨(i 0).val, h0⟩ (by
      show (i 0).val = 512 * Cert.KernelIdeal.Value.pt6Of i + (i 0).val % 512
      rw [hp]; omega)
  have hc : (Cert.KernelIdeal.Value.loc6Of i) 1 = i 1 := Fin.ext (Nat.mod_eq_of_lt h1)
  exact congrArg₂ (fun u v : EReal => u * v) hx ((congrArg (fun n => weight0 m c (ix2 n k)) hc).trans (weight0_apply m c (i 1) k))

end Cert.KernelIdeal.Chunk
-- ==== Proof.Unpack.lean ====
/-
  The reference's result, element by element.

  The reference unpacks the mask and sign bits by shifting each byte, and contracts over the 144 byte columns and the 8 bit
  numbers. Its result is the same product, the 1152 columns taken as 144 groups of 8.
-/
module

public import proofs.«01_k».proof.Proof.Product
public import proofs.«01_k».proof.Proof.Gen.ReferenceIdeal.Run

@[expose] public section

set_option maxRecDepth 16384

noncomputable section

namespace Cert.ReferenceIdeal.Unpack

open Cert.ReferenceIdeal Cert.ReferenceIdeal.Gen Idealize.ShloMosaic Idealize.ShloMosaic.TcCoe
open Idealize.SL.Sem

/-- A sum over the columns is the sum over their groups of eight. -/
theorem sum_groups {M : Type} [AddCommMonoid M] (f : Fin 1152 → M) :
    ∑ k : Fin 1152, f k = ∑ p : Fin 144, ∑ j : Fin 8, f ⟨p.val * 8 + j.val, by omega⟩ := by
  rw [← Fintype.sum_prod_type' (f := fun (p : Fin 144) (j : Fin 8) => f ⟨p.val * 8 + j.val, by omega⟩)]
  let e : Fin 1152 ≃ Fin 144 × Fin 8 :=
    { toFun := fun k => (⟨k.val / 8, by omega⟩, ⟨k.val % 8, by omega⟩)
      invFun := fun u => ⟨u.1.val * 8 + u.2.val, by omega⟩
      left_inv := fun k => Fin.ext (by show k.val / 8 * 8 + k.val % 8 = k.val; omega)
      right_inv := fun u => Prod.ext (Fin.ext (by show (u.1.val * 8 + u.2.val) / 8 = u.1.val; omega))
        (Fin.ext (by show (u.1.val * 8 + u.2.val) % 8 = u.2.val; omega)) }
  exact Fintype.sum_equiv e _ _ fun k => congrArg f (Fin.ext (by show k.val = k.val / 8 * 8 + k.val % 8; omega))

/-- The bits of the packed bytes, one by one. -/
def bits (b : IVec S4608x144 8) : IVec S4608x144x8 1 :=
  cmpi .eq (andi (Host.shrsi (broadcastInDim S4608x144x8 ![0, 1, 2] bcast_S4608x144x1_S4608x144x8_0_1_2 (broadcastInDim S4608x144x1 ![0, 1] bcast_S4608x144_S4608x144x1_0_1 (extui 32 b natLt_8_32))) (broadcastInDim S4608x144x8 ![0, 1, 2] bcast_S1x1x8_S4608x144x8_0_1_2 (broadcastInDim S1x1x8 ![2] bcast_S8_S1x1x8_2 (iotaInDim S8 32 0)))) (broadcastInDim S4608x144x8 ![] bcast_S_S4608x144x8 (constantI S_ 32 1#32))) (broadcastInDim S4608x144x8 ![] bcast_S_S4608x144x8 (constantI S_ 32 1#32))

/-- The reference's weight. -/
def weights (mask sign : IVec S4608x144 8) (q : IVec S4608x1152 8) (s a : FVec Ideal S4608 .f32) : FVec Ideal S4608x144x8 .bf16 :=
  select (bits mask) (mulf (sitofp .bf16 (extsi 32 (shapeCast S4608x144x8 q shapeCasts_S4608x1152_S4608x144x8) natLt_8_32)) (broadcastInDim S4608x144x8 ![0, 1, 2] bcast_S4608x1x1_S4608x144x8_0_1_2 (broadcastInDim S4608x1x1 ![0] bcast_S4608_S4608x1x1_0 (truncf .bf16 s bitsLt_bf16_f32)))) (select (bits sign) (broadcastInDim S4608x144x8 ![0, 1, 2] bcast_S4608x1x1_S4608x144x8_0_1_2 (broadcastInDim S4608x1x1 ![0] bcast_S4608_S4608x1x1_0 (truncf .bf16 a bitsLt_bf16_f32))) (broadcastInDim S4608x144x8 ![0, 1, 2] bcast_S4608x1x1_S4608x144x8_0_1_2 (Host.negf (broadcastInDim S4608x1x1 ![0] bcast_S4608_S4608x1x1_0 (truncf .bf16 a bitsLt_bf16_f32)))))

/-- The reference's result array, over its arguments. -/
def value (x : FVec Ideal S6x2048x1152 .bf16) (mask sign : IVec S4608x144 8) (q : IVec S4608x1152 8)
    (s a : FVec Ideal S4608 .f32) : FVec Ideal S12288x4608 .bf16 :=
  shapeCast S12288x4608 (truncf .bf16 (Host.dotGeneral dot_S6x2048x144x8_S4608x144x8_S6x2048x4608_23_12_01_0_n_n none (shapeCast S6x2048x144x8 x shapeCasts_S6x2048x1152_S6x2048x144x8) (weights mask sign q s a)) bitsLt_bf16_f32) shapeCasts_S6x2048x4608_S12288x4608

/-- Bit `j` of a byte, read by an arithmetic shift of the byte widened to 32 bits. -/
theorem byte_bit : ∀ (b : BitVec 8) (j : Fin 8),
    IntOp.cmpi .eq (IntOp.andi (IntOp.shrsi .host (b.setWidth 32) (BitVec.ofNat 32 j.val)) 1#32) 1#32
      = BitVec.ofBool (b.getLsbD j.val) := by
  decide

/-- Each unpacked bit is the byte's bit. -/
theorem bits_apply (b : IVec S4608x144 8) (n : Fin 4608) (p : Fin 144) (j : Fin 8) :
    bits b (ix3 n p j) = BitVec.ofBool ((b (ix2 n p)).getLsbD j.val) := by
  unfold bits
  pointwise
  exact byte_bit _ _

/-- A choice by a bit. -/
theorem select_bit (c : Bool) (u v : EReal) : Scalar.select (BitVec.ofBool c) u v = if c then u else v := by
  cases c <;> rfl

/-- One element of the reference's weight is the kernel's entry. -/
theorem weights_apply (mask sign : IVec S4608x144 8) (q : IVec S4608x1152 8) (s a : FVec Ideal S4608 .f32)
    (n : Fin 4608) (p : Fin 144) (j : Fin 8) :
    weights mask sign q s a (ix3 n p j)
      = Cert.KernelIdeal.Chunk.entry (mask (ix2 n p)) (sign (ix2 n p)) j.val (q (ix2 n ⟨p.val * 8 + j.val, by omega⟩))
          (s (ix1 n)) (a (ix1 n)) := by
  have hi : ∀ b : BitVec 8, FloatOps.sitofp (F := Ideal) .bf16 (b.signExtend 32) = ((b.toInt : ℝ) : EReal) := fun b => by
    show (((b.signExtend 32).toInt : ℝ) : EReal) = _
    rw [BitVec.toInt_signExtend_of_le (by decide)]
  unfold weights
  pointwise
  rw [bits_apply, bits_apply, hi]
  unfold Cert.KernelIdeal.Chunk.entry
  exact (select_bit _ _ _).trans (congrArg (fun v : EReal => if (mask (ix2 n p)).getLsbD j.val then _ else v) (select_bit _ _ _))

/-- The reference's result is the product. -/
theorem value_eq (x : FVec Ideal S6x2048x1152 .bf16) (mask sign : IVec S4608x144 8) (q : IVec S4608x1152 8)
    (s a : FVec Ideal S4608 .f32) : value x mask sign q s a = Cert.KernelIdeal.Chunk.result x mask sign q s a := by
  funext i
  unfold Cert.KernelIdeal.Chunk.result
  refine Eq.trans ?_ (sum_groups _).symm
  unfold value
  pointwise
  refine Finset.sum_congr rfl fun p _ => Finset.sum_congr rfl fun j _ => ?_
  have hd : (⟨(p.val * 8 + j.val) / 8, by omega⟩ : Fin 144) = p := Fin.ext (by show (p.val * 8 + j.val) / 8 = p.val; omega)
  have hm : (p.val * 8 + j.val) % 8 = j.val := by omega
  refine congrArg (fun v : EReal => _ * v) ((weights_apply mask sign q s a (i 1) p j).trans ?_)
  show _ = Cert.KernelIdeal.Chunk.entry (mask (ix2 (i 1) ⟨(p.val * 8 + j.val) / 8, _⟩)) (sign (ix2 (i 1) ⟨(p.val * 8 + j.val) / 8, _⟩))
    ((p.val * 8 + j.val) % 8) _ _ _
  simp only [hd, hm]

end Cert.ReferenceIdeal.Unpack
-- ==== Proof.lean ====
/-
  The proof of `Cert.Claim` (Defs.lean): the kernel, its idealization and the idealized reference each run to the end with
  their arguments unchanged and every semaphore back at zero; the idealization rewrites nothing; and over the extended
  reals the kernel and the reference end with equal results.

  The first three come from the generated certificates. The value claim goes through `Chunk.result` (Proof/Product.lean),
  the sum over the 1152 columns of `x` times the weight: the kernel's result array is it (`Chunk.kernel_result`), by what
  its loop stores (Expand, Trip, Bits, Weights, Scratch) and what its grid points leave (Blocks); the reference's result
  array is it too (`Unpack.value_eq`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Unpack
public import Idealize.ShloMosaic.Adequacy
public import Idealize.ShloMosaic.Init

@[expose] public section

noncomputable section

namespace Cert.Proof

open Idealize.ShloMosaic Idealize.SL.Sem Cert.Kernel

/-- `Cert.quiescent_ReferenceIdeal`: no semaphore is declared, and the run leaves the arguments as they were. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- `Cert.algebraic_KernelIdeal_ReferenceIdeal`: both result arrays end at the product of the arguments. -/
theorem algebraic : Cert.algebraic_KernelIdeal_ReferenceIdeal := by
  intro m ρ m' ρ' _ hagree
  refine ⟨fun c => Cert.KernelIdeal.Value.G6 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact (Cert.ReferenceIdeal.Unpack.value_eq _ _ _ _ _ _).trans (Cert.KernelIdeal.Chunk.kernel_result m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
